-- ==== Defs.lean ====
def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradReferenceIdeal (m : (ℓ : Loc Cert.GradReferenceIdeal.nD Cert.GradReferenceIdeal.τ Cert.GradReferenceIdeal.sig) → Buf (Elt Ideal) ℓ) : Prop :=
  True

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2))
      ∧ r.2.sem = fun _ => 0)

def quiescent_GradReferenceIdeal [hGradReferenceIdeal : Cert.GradReferenceIdeal.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1)
      ∧ r.2.mem ((c.tc : Thread Cert.GradReferenceIdeal.nD Cert.GradReferenceIdeal.τ).loc Cert.GradReferenceIdeal.main_arg2) = m ((c.tc : Thread Cert.GradReferenceIdeal.nD Cert.GradReferenceIdeal.τ).loc Cert.GradReferenceIdeal.main_arg2))
      ∧ r.2.sem = fun _ => 0)

def preserves_Grad_GradIdeal : Prop :=
  True

def algebraic_GradIdeal_GradReferenceIdeal [hGradIdeal : Cert.GradIdeal.Facts] [hGradReferenceIdeal : Cert.GradReferenceIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradReferenceIdeal.nD Cert.GradReferenceIdeal.τ Cert.GradReferenceIdeal.sig) → Buf (Elt Ideal) ℓ) (g' : Dev Cert.GradReferenceIdeal.nD → PrngReg), Pre_GradIdeal m →
    (∀ c : Dev Cert.GradIdeal.nD,
      m' ((c.tc : Thread Cert.GradReferenceIdeal.nD Cert.GradReferenceIdeal.τ).loc Cert.GradReferenceIdeal.main_arg0) = m ((c.tc : Thread Cert.GradIdeal.nD Cert.GradIdeal.τ).loc Cert.GradIdeal.main_arg0)
      ∧ m' ((c.tc : Thread Cert.GradReferenceIdeal.nD Cert.GradReferenceIdeal.τ).loc Cert.GradReferenceIdeal.main_arg1) = m ((c.tc : Thread Cert.GradIdeal.nD Cert.GradIdeal.τ).loc Cert.GradIdeal.main_arg1)
      ∧ m' ((c.tc : Thread Cert.GradReferenceIdeal.nD Cert.GradReferenceIdeal.τ).loc Cert.GradReferenceIdeal.main_arg2) = m ((c.tc : Thread Cert.GradIdeal.nD Cert.GradIdeal.τ).loc Cert.GradIdeal.main_arg2)) →
    ∃ (v0 : (c : Dev Cert.GradIdeal.nD) → Buf (Elt Ideal) ((c.tc : Thread Cert.GradIdeal.nD Cert.GradIdeal.τ).loc Cert.GradIdeal.main_v8)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v8) = v0 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2))
      ∧ θ_run (Cert.GradReferenceIdeal.defs (F := Ideal)) (onTc (τ := Cert.GradReferenceIdeal.τ) (Cert.GradReferenceIdeal.main (F := Ideal))) ⟨m', fun _ => 0, g'⟩ (fun r => ∀ c : Dev Cert.GradReferenceIdeal.nD,
          r.2.mem ((c.tc : Thread Cert.GradReferenceIdeal.nD Cert.GradReferenceIdeal.τ).loc Cert.GradReferenceIdeal.main_v5) = v0 c
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1)
          ∧ r.2.mem ((c.tc : Thread Cert.GradReferenceIdeal.nD Cert.GradReferenceIdeal.τ).loc Cert.GradReferenceIdeal.main_arg2) = m' ((c.tc : Thread Cert.GradReferenceIdeal.nD Cert.GradReferenceIdeal.τ).loc Cert.GradReferenceIdeal.main_arg2))

def Claim : Prop :=
  ∃ (hGrad : Cert.Grad.Facts) (hGradIdeal : Cert.GradIdeal.Facts) (hGradReferenceIdeal : Cert.GradReferenceIdeal.Facts),
    quiescent_Grad (hGrad := hGrad)
    ∧ quiescent_GradIdeal (hGradIdeal := hGradIdeal)
    ∧ quiescent_GradReferenceIdeal (hGradReferenceIdeal := hGradReferenceIdeal)
    ∧ preserves_Grad_GradIdeal
    ∧ algebraic_GradIdeal_GradReferenceIdeal (hGradIdeal := hGradIdeal) (hGradReferenceIdeal := hGradReferenceIdeal)
-- ==== Grad.lean ====
abbrev S6x2048x3584 : Shape := ⟨3, ![6, 2048, 3584]⟩
abbrev S6x2048x18944 : Shape := ⟨3, ![6, 2048, 18944]⟩
abbrev S6x2048 : Shape := ⟨2, ![6, 2048]⟩
abbrev S12288x1 : Shape := ⟨2, ![12288, 1]⟩
abbrev S_ : Shape := ⟨0, ![]⟩
abbrev S12288x3584 : Shape := ⟨2, ![12288, 3584]⟩
abbrev S12288x18944 : Shape := ⟨2, ![12288, 18944]⟩
abbrev S3584x18944 : Shape := ⟨2, ![3584, 18944]⟩
abbrev S12288x512 : Shape := ⟨2, ![12288, 512]⟩
abbrev S512x512 : Shape := ⟨2, ![512, 512]⟩

abbrev nBuf : Space → Nat
  | .hbm => 13
  | .vmem => 6
  | .smem => 0
  | _ => 0

abbrev bufTy : (tb : Table) → Fin (tcTables nBuf tb) → BufTy
  | .hbm, ⟨0, _⟩ => ⟨S6x2048x3584, .bf16⟩
  | .hbm, ⟨1, _⟩ => ⟨S6x2048x18944, .fp8e5m2⟩
  | .hbm, ⟨2, _⟩ => ⟨S6x2048, .f32⟩
  | .hbm, ⟨3, _⟩ => ⟨S12288x1, .f32⟩
  | .hbm, ⟨4, _⟩ => ⟨S_, .f32⟩
  | .hbm, ⟨5, _⟩ => ⟨S12288x1, .f32⟩
  | .hbm, ⟨6, _⟩ => ⟨S12288x1, .f32⟩
  | .hbm, ⟨7, _⟩ => ⟨S12288x1, .bf16⟩
  | .hbm, ⟨8, _⟩ => ⟨S12288x3584, .bf16⟩
  | .hbm, ⟨9, _⟩ => ⟨S12288x3584, .bf16⟩
  | .hbm, ⟨10, _⟩ => ⟨S12288x3584, .bf16⟩
  | .hbm, ⟨11, _⟩ => ⟨S12288x18944, .fp8e5m2⟩
  | .hbm, ⟨12, _⟩ => ⟨S3584x18944, .f32⟩
  | .local _ .vmem, ⟨0, _⟩ => ⟨S12288x512, .bf16⟩
  | .local _ .vmem, ⟨1, _⟩ => ⟨S12288x512, .bf16⟩
  | .local _ .vmem, ⟨2, _⟩ => ⟨S12288x512, .fp8e5m2⟩
  | .local _ .vmem, ⟨3, _⟩ => ⟨S12288x512, .fp8e5m2⟩
  | .local _ .vmem, ⟨4, _⟩ => ⟨S512x512, .f32⟩
  | .local _ .vmem, ⟨5, _⟩ => ⟨S512x512, .f32⟩
  | _, _ => ⟨S6x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S12288x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12288x512 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradReferenceIdeal.lean ====
abbrev S6x2048x3584 : Shape := ⟨3, ![6, 2048, 3584]⟩
abbrev S6x2048x18944 : Shape := ⟨3, ![6, 2048, 18944]⟩
abbrev S6x2048 : Shape := ⟨2, ![6, 2048]⟩
abbrev S6x2048x1 : Shape := ⟨3, ![6, 2048, 1]⟩
abbrev S3584x18944 : Shape := ⟨2, ![3584, 18944]⟩

abbrev nBuf : Space → Nat
  | .hbm => 9
  | .vmem => 2
  | .smem => 0
  | _ => 0

abbrev bufTy : (tb : Table) → Fin (tcTables nBuf tb) → BufTy
  | .hbm, ⟨0, _⟩ => ⟨S6x2048x3584, .bf16⟩
  | .hbm, ⟨1, _⟩ => ⟨S6x2048x18944, .fp8e5m2⟩
  | .hbm, ⟨2, _⟩ => ⟨S6x2048, .f32⟩
  | .hbm, ⟨3, _⟩ => ⟨S6x2048x18944, .bf16⟩
  | .hbm, ⟨4, _⟩ => ⟨S6x2048x1, .f32⟩
  | .hbm, ⟨5, _⟩ => ⟨S6x2048x1, .bf16⟩
  | .hbm, ⟨6, _⟩ => ⟨S6x2048x18944, .bf16⟩
  | .hbm, ⟨7, _⟩ => ⟨S6x2048x18944, .bf16⟩
  | .hbm, ⟨8, _⟩ => ⟨S3584x18944, .f32⟩
  | .local _ .vmem, ⟨0, _⟩ => ⟨S6x2048x18944, .fp8e5m2⟩
  | .local _ .vmem, ⟨1, _⟩ => ⟨S6x2048x18944, .bf16⟩
  | _, _ => ⟨S6x2048x3584, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S6x2048x18944 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048x18944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.GradValue.lean ====
/-
  The weight gradient's kernel over the extended reals: what its result array holds after the run.
-/
module

public import proofs.«01_k».proof.Defs
public import proofs.«01_k».proof.Proof.Gen.GradIdeal.Value
public import Idealize.ShloMosaic.Lib.Pipeline.ValueKit
public import Idealize.ShloMosaic.Lib.Pipeline.Covers
public import Idealize.ShloMosaic.Lib.Pointwise

@[expose] public section

set_option maxRecDepth 16384

noncomputable section

namespace Cert.Proof.GradValue

open Idealize.ShloMosaic Idealize.ShloMosaic.TcCoe Idealize.SL.Sem Cert.GradIdeal Cert.GradIdeal.Gen
open scoped BigOperators

variable (m : (ℓ : Loc nD τ sig) → Buf (Elt Ideal) ℓ)

/-- The blocks that the three windows are on at a grid point `(m, n)`: all rows of column block `m` of the activations,
    all rows of column block `n` of `dy`, block `(m, n)` of the result. -/
theorem index_eq (t : Fin cfg0.N) :
    win0_0.index t = ![0, (grid0.coords t 0).val] ∧ win0_1.index t = ![0, (grid0.coords t 1).val]
      ∧ win0_2.index t = ![(grid0.coords t 0).val, (grid0.coords t 1).val] :=
  (by decide +kernel : ∀ t : Fin grid0.N, win0_0.index t = ![0, (grid0.coords t 0).val] ∧ win0_1.index t = ![0, (grid0.coords t 1).val]
      ∧ win0_2.index t = ![(grid0.coords t 0).val, (grid0.coords t 1).val]) t

/-- The result's blocks cover its array. -/
theorem covers : (cfg0.win 2).Covers := by decide +kernel

/-- The scaled activations, as the kernel finds them. -/
def xs (c : Dev nD) : S12288x3584.Idx → EReal := V m c main_v6

/-- The flattened `dy`, as the kernel finds it. -/
def dys (c : Dev nD) : S12288x18944.Idx → EReal := V m c main_v7

/-- The factor that the kernel multiplies its sums with. -/
def back : EReal := Ideal.ofBits .f32 0x38000000#32

/-- The weight gradient's entry for input channel `i` and output channel `o`. -/
def grad (c : Dev nD) : S3584x18944.Idx → EReal :=
  fun i => (∑ t : Fin 12288, xs m c (ix2 t (i 0)) * dys m c (ix2 t (i 1))) * back

/-- The result array after the run: entry `(i, o)` is the sum over the tokens of the two operands' products, times `2⁻¹⁵`. -/
theorem final_eq (c : Dev nD) : (dats m 0 c).arrAt 2 cfg0.N = grad m c := by
  refine (dats m 0 c).arrAt_eq_of_covers 2 _ covers fun t hf y => ?_
  blk_simp
  rw [after0_2]
  frame_out
  obtain ⟨e0, e1, e2⟩ := index_eq t
  pointwise [k0_pay1]
  unfold grad back
  refine congrArg (· * _) (Finset.sum_congr rfl fun k _ => congrArg₂ (· * ·) ?_ ?_)
  · unfold xs
    blk_ext [iblk, V, e0, e2]
  · unfold dys
    blk_ext [iblk, V, e1, e2]

end Cert.Proof.GradValue

end
-- ==== Proof.GradEntry.lean ====
/-
  The operands of the weight gradient's kernel, read off the program's arguments.
-/
module

public import proofs.«01_k».proof.Defs
public import proofs.«01_k».proof.Proof.GradValue
public import Idealize.ShloMosaic.Lib.Claim

@[expose] public section

set_option maxRecDepth 16384

noncomputable section

namespace Cert.Proof.GradValue

open Idealize.ShloMosaic Idealize.ShloMosaic.TcCoe Idealize.SL.Sem Cert.GradIdeal Cert.GradIdeal.Gen
open scoped BigOperators

variable (m : (ℓ : Loc nD τ sig) → Buf (Elt Ideal) ℓ)

/-- The activations. -/
def a0 (c : Dev nD) : S6x2048x3584.Idx → EReal := m ((c.tc : Thread nD τ).loc main_arg0)

/-- The gradient of the outputs. -/
def a1 (c : Dev nD) : S6x2048x18944.Idx → EReal := m ((c.tc : Thread nD τ).loc main_arg1)

/-- The scale of each token. -/
def a2 (c : Dev nD) : S6x2048.Idx → EReal := m ((c.tc : Thread nD τ).loc main_arg2)

/-- The factor on the scales. -/
def fore : EReal := Ideal.ofBits .f32 0x47000000#32

/-- Row `t` of the scaled activations is token `(t / 2048, t % 2048)`'s row times its scale times the factor. -/
theorem xs_eq (c : Dev nD) (b : Fin 6) (s : Fin 2048) (i : Fin 3584) (t : Fin 12288) (ht : t.val = 2048 * b.val + s.val) :
    xs m c (ix2 t i) = a0 m c (ix3 b s i) * (a2 m c (ix2 b s) * fore) := by
  have hb : (⟨t.val / 2048, by omega⟩ : Fin 6) = b := Fin.ext (by simp only []; omega)
  have hs : (⟨t.val % 2048, by omega⟩ : Fin 2048) = s := Fin.ext (by simp only []; omega)
  unfold xs
  entry_read
  pointwise
  unfold a0 a2 fore
  rw [hb, hs]

/-- Row `t` of the flattened `dy` is token `(t / 2048, t % 2048)`'s row. -/
theorem dys_eq (c : Dev nD) (b : Fin 6) (s : Fin 2048) (o : Fin 18944) (t : Fin 12288) (ht : t.val = 2048 * b.val + s.val) :
    dys m c (ix2 t o) = a1 m c (ix3 b s o) := by
  have hb : (⟨t.val / 2048, by omega⟩ : Fin 6) = b := Fin.ext (by simp only []; omega)
  have hs : (⟨t.val % 2048, by omega⟩ : Fin 2048) = s := Fin.ext (by simp only []; omega)
  unfold dys
  entry_read
  pointwise
  unfold a1
  rw [hb, hs]

end Cert.Proof.GradValue

end
-- ==== Proof.GradReference.lean ====
/-
  The reference's weight gradient: what its result array holds after the run.
-/
module

public import proofs.«01_k».proof.Defs
public import proofs.«01_k».proof.Proof.Gen.GradReferenceIdeal.Frame
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.Proof.GradReference

open Idealize.ShloMosaic Idealize.ShloMosaic.TcCoe Idealize.SL.Sem Cert.GradReferenceIdeal Cert.GradReferenceIdeal.Gen
open scoped BigOperators

variable (m : (ℓ : Loc nD τ sig) → Buf (Elt Ideal) ℓ)

/-- The activations. -/
def a0 (c : Dev nD) : S6x2048x3584.Idx → EReal := m ((c.tc : Thread nD τ).loc main_arg0)

/-- The gradient of the outputs. -/
def a1 (c : Dev nD) : S6x2048x18944.Idx → EReal := m ((c.tc : Thread nD τ).loc main_arg1)

/-- The scale of each token. -/
def a2 (c : Dev nD) : S6x2048.Idx → EReal := m ((c.tc : Thread nD τ).loc main_arg2)

/-- The cast of `dy` keeps every value. -/
theorem cast_eq (c : Dev nD) : (dats m 0 c).arrAt 1 cfg0.N = a1 m c := by
  refine (dats m 0 c).arrAt_eq_of_covers 1 _ (by decide +kernel) fun t hf y => ?_
  blk_simp
  rw [after0_1]
  frame_out
  pointwise [k0_pay1]
  unfold a1
  have e : win0_0.index t = win0_1.index t :=
    (by decide +kernel : ∀ t : Fin grid0.N, win0_0.index t = win0_1.index t) t
  blk_ext [iblk, V, e]

/-- The reference's result: the sum over batch and sequence of the products. -/
def grad (c : Dev nD) : S3584x18944.Idx → EReal := fun i =>
  ∑ b : Fin 6, ∑ s : Fin 2048, a0 m c (ix3 b s (i 0)) * (a1 m c (ix3 b s (i 1)) * a2 m c (ix2 b s))

/-- The lines after the cast leave that sum in the result's buffer. -/
theorem tail_eq (c : Dev nD) : Pipeline.afterTail₀ cfgs (dats m) 0 (V0 m) [hostOps1] c main_v5 = grad m c := by
  have h0 : (Pipeline.withArrays (cfgs 0).spec c (V0 m c) fun w => (dats m 0 c).arrAt w (cfgs 0).N) (Proc.tc.devRef main_arg0) = a0 m c :=
    Pipeline.withArrays_of_ne _ c (V0 m c) _ main_arg0 (by exact (by decide : ∀ w, Pipeline.arrRef spec0 w ≠ main_arg0))
  have h2 : (Pipeline.withArrays (cfgs 0).spec c (V0 m c) fun w => (dats m 0 c).arrAt w (cfgs 0).N) (Proc.tc.devRef main_arg2) = a2 m c :=
    Pipeline.withArrays_of_ne _ c (V0 m c) _ main_arg2 (by exact (by decide : ∀ w, Pipeline.arrRef spec0 w ≠ main_arg2))
  have h1 : (Pipeline.withArrays (cfgs 0).spec c (V0 m c) fun w => (dats m 0 c).arrAt w (cfgs 0).N) (Proc.tc.devRef main_v0) = a1 m c :=
    (Pipeline.withArrays_arr spec0 (by decide) c (V0 m c) _ 1).trans (cast_eq m c)
  unfold Pipeline.afterTail₀
  rw [List.flatten_cons, List.flatten_nil, List.append_nil]
  unfold hostOps1
  after_results_simp
  rw [h0, h1, h2]
  funext i
  pointwise
  rfl

/-- The reference runs, ends with that result and leaves its arguments unchanged. -/
theorem run_grad (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m ρ
  · exact tail_eq m c
  · exact W_main_arg0 m _ c
  · exact W_main_arg2 m _ c

end Cert.Proof.GradReference

end
-- ==== Proof.GradAlgebra.lean ====
/-
  The equation between the two gradients: a sum over all tokens is a sum over batch and sequence, and the factors `2¹⁵` and
  `2⁻¹⁵` cancel, on every extended real.
-/
module

public import Idealize.ShloMosaic.Lib.Pointwise

@[expose] public section

noncomputable section

namespace Cert.Proof.GradAlgebra

open Idealize.ShloMosaic
open scoped BigOperators

/-- A nonnegative real factor goes into a finite sum of extended reals. -/
theorem sum_mul_coe {ι : Type} [Fintype ι] (f : ι → EReal) (r : ℝ) (hr : 0 ≤ r) :
    (∑ k, f k) * (r : EReal) = ∑ k, f k * (r : EReal) := by
  classical
  induction (Finset.univ : Finset ι) using Finset.induction_on with
  | empty => simp
  | insert a s ha ih =>
      rw [Finset.sum_insert ha, Finset.sum_insert ha, ← ih]
      exact EReal.right_distrib_of_nonneg_of_ne_top (EReal.coe_nonneg.mpr hr) (EReal.coe_ne_top r) _ _

/-- The factor on the scales is `2¹⁵`. -/
theorem ofBits_fore : Ideal.ofBits .f32 0x47000000#32 = ((32768 : ℝ) : EReal) := by
  simp [Ideal.ofBits, Ideal.ieee, -EReal.coe_mul]; norm_num

/-- The factor on the sums is `2⁻¹⁵`. -/
theorem ofBits_back : Ideal.ofBits .f32 0x38000000#32 = ((1 / 32768 : ℝ) : EReal) := by
  simp [Ideal.ofBits, Ideal.ieee, -EReal.coe_mul]; norm_num

/-- The factors cancel around a product. -/
theorem cancel (x d s : EReal) : x * (s * ((32768 : ℝ) : EReal)) * d * ((1 / 32768 : ℝ) : EReal) = x * (d * s) := by
  have h : ((32768 : ℝ) : EReal) * ((1 / 32768 : ℝ) : EReal) = 1 := by
    rw [← EReal.coe_mul]; norm_num
  calc x * (s * ((32768 : ℝ) : EReal)) * d * ((1 / 32768 : ℝ) : EReal)
      = x * (d * s) * (((32768 : ℝ) : EReal) * ((1 / 32768 : ℝ) : EReal)) := by ac_rfl
    _ = x * (d * s) := by rw [h, mul_one]

/-- A sum over the flattened tokens is the sum over batch and sequence. -/
theorem sum_tokens (f : Fin 12288 → EReal) :
    (∑ t, f t) = ∑ b : Fin 6, ∑ s : Fin 2048, f ⟨2048 * b.val + s.val, by omega⟩ := by
  rw [← Finset.sum_product', Finset.univ_product_univ]
  refine (Fintype.sum_equiv (finProdFinEquiv (m := 6) (n := 2048)) _ _ fun p => congrArg f (Fin.ext ?_)).symm
  simp [finProdFinEquiv]; omega

end Cert.Proof.GradAlgebra

end
-- ==== Proof.GradClaim.lean ====
/-
  The weight gradient's value claim: the kernel's result equals the reference's on every input.
-/
module

public import proofs.«01_k».proof.Defs
public import proofs.«01_k».proof.Proof.GradEntry
public import proofs.«01_k».proof.Proof.GradReference
public import proofs.«01_k».proof.Proof.GradAlgebra

@[expose] public section

set_option maxRecDepth 16384

noncomputable section

namespace Cert.Proof.GradClaim

open Idealize.ShloMosaic Idealize.ShloMosaic.TcCoe Idealize.SL.Sem
open scoped BigOperators

/-- The kernel's gradient is the reference's, from equal arguments. -/
theorem grad_eq (m : (ℓ : Loc GradIdeal.nD GradIdeal.τ GradIdeal.sig) → Buf (Elt Ideal) ℓ)
    (m' : (ℓ : Loc GradReferenceIdeal.nD GradReferenceIdeal.τ GradReferenceIdeal.sig) → Buf (Elt Ideal) ℓ) (c : Dev GradIdeal.nD)
    (h0 : GradReference.a0 m' c = GradValue.a0 m c) (h1 : GradReference.a1 m' c = GradValue.a1 m c)
    (h2 : GradReference.a2 m' c = GradValue.a2 m c) : GradReference.grad m' c = GradValue.grad m c := by
  funext i
  unfold GradReference.grad GradValue.grad GradValue.back
  rw [h0, h1, h2, GradAlgebra.ofBits_back, GradAlgebra.sum_mul_coe _ _ (by norm_num), GradAlgebra.sum_tokens]
  refine Finset.sum_congr rfl fun b _ => Finset.sum_congr rfl fun s _ => ?_
  rw [GradValue.xs_eq m c b s (i 0) _ rfl, GradValue.dys_eq m c b s (i 1) _ rfl]
  unfold GradValue.fore
  rw [GradAlgebra.ofBits_fore, GradAlgebra.cancel]

/-- Both programs run from equal arguments, end with equal results and leave their arguments unchanged. -/
theorem algebraic : algebraic_GradIdeal_GradReferenceIdeal (hGradIdeal := GradIdeal.Gen.facts) (hGradReferenceIdeal := GradReferenceIdeal.Gen.facts) := by
  intro m g m' g' _ hag
  refine ⟨fun c => GradValue.grad m c, ?_, ?_⟩
  · refine (θ_run _ _ _).mono (fun r h c => ?_) (GradIdeal.Value.run_blocks m g)
    obtain ⟨h0, h1⟩ := h c
    exact ⟨h0.trans (GradValue.final_eq m c), h1⟩
  · refine (θ_run _ _ _).mono (fun r h c => ?_) (GradReference.run_grad m' g')
    obtain ⟨h0, h1⟩ := h c
    exact ⟨h0.trans (grad_eq m m' c (hag c).1 (hag c).2.1 (hag c).2.2), h1⟩

end Cert.Proof.GradClaim

end
-- ==== Proof.lean ====
module

public import proofs.«01_k».proof.Defs
public import proofs.«01_k».proof.Proof.Gen.Grad
public import proofs.«01_k».proof.Proof.Gen.Grad.Skeleton
public import proofs.«01_k».proof.Proof.Gen.Grad.Launch
public import proofs.«01_k».proof.Proof.Gen.Grad.Points
public import proofs.«01_k».proof.Proof.Gen.Grad.Frame
public import proofs.«01_k».proof.Proof.Gen.GradIdeal
public import proofs.«01_k».proof.Proof.Gen.GradIdeal.Skeleton
public import proofs.«01_k».proof.Proof.Gen.GradIdeal.Launch
public import proofs.«01_k».proof.Proof.Gen.GradIdeal.Points
public import proofs.«01_k».proof.Proof.Gen.GradIdeal.Frame
public import proofs.«01_k».proof.Proof.Gen.GradReferenceIdeal
public import proofs.«01_k».proof.Proof.Gen.GradReferenceIdeal.Skeleton
public import proofs.«01_k».proof.Proof.Gen.GradReferenceIdeal.Launch
public import proofs.«01_k».proof.Proof.Gen.GradReferenceIdeal.Points
public import proofs.«01_k».proof.Proof.Gen.GradReferenceIdeal.Frame
public import proofs.«01_k».proof.Proof.Gen.GradIdeal.Value
public import proofs.«01_k».proof.Proof.GradClaim
public import Idealize.ShloMosaic.Adequacy
public import Idealize.ShloMosaic.Init

@[expose] public section

noncomputable section

namespace Cert.Proof

open Idealize.ShloMosaic Idealize.SL.Sem Cert.Grad

theorem claim : Cert.Claim := ⟨Cert.Grad.Gen.facts, Cert.GradIdeal.Gen.facts, Cert.GradReferenceIdeal.Gen.facts,
  fun m ρ _ => Cert.Grad.Gen.frame m ρ, fun m ρ _ => Cert.GradIdeal.Gen.frame m ρ, fun m ρ _ => Cert.GradReferenceIdeal.Gen.frame m ρ,
  trivial, GradClaim.algebraic⟩

end Cert.Proof

end
